-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_vote [hPre_finite_vote : Cert.Pre_finite_vote.Facts] (m : (ℓ : Loc Cert.KernelIdeal.nD Cert.KernelIdeal.τ Cert.KernelIdeal.sig) → Buf (Elt Ideal) ℓ) : Prop :=
  ∀ c : Dev Cert.KernelIdeal.nD,
    (Cert.Pre_finite_vote.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_vote [hPre_finite_vote : Cert.Pre_finite_vote.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_vote.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_vote [hKernelIdeal : Cert.KernelIdeal.Facts] [hPre_finite_vote : Cert.Pre_finite_vote.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_vote m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_vote [hReferenceIdeal : Cert.ReferenceIdeal.Facts] [hPre_finite_vote : Cert.Pre_finite_vote.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_vote m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "eps_squared" .f32 0x24E69595#32 ((126765058482001 / 1267650600228229401496703205376 : ℝ) : EReal)

def algebraic_KernelIdeal_ReferenceIdeal_pre_finite_vote [hKernelIdeal : Cert.KernelIdeal.Facts] [hReferenceIdeal : Cert.ReferenceIdeal.Facts] [hPre_finite_vote : Cert.Pre_finite_vote.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_vote m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_vote : Cert.Pre_finite_vote.Facts),
    quiescent_Kernel (hKernel := hKernel)
    ∧ quiescent_KernelIdeal (hKernelIdeal := hKernelIdeal)
    ∧ quiescent_KernelIdeal_pre_finite_vote (hKernelIdeal := hKernelIdeal) (hPre_finite_vote := hPre_finite_vote)
    ∧ quiescent_ReferenceIdeal (hReferenceIdeal := hReferenceIdeal)
    ∧ quiescent_ReferenceIdeal_pre_finite_vote (hReferenceIdeal := hReferenceIdeal) (hPre_finite_vote := hPre_finite_vote)
    ∧ preserves_Kernel_KernelIdeal
    ∧ algebraic_KernelIdeal_ReferenceIdeal_pre_finite_vote (hKernelIdeal := hKernelIdeal) (hReferenceIdeal := hReferenceIdeal) (hPre_finite_vote := hPre_finite_vote)
-- ==== Pre_finite_vote.lean ====
abbrev S16384x128 : Shape := ⟨2, ![16384, 128]⟩
abbrev S1x128x11 : Shape := ⟨3, ![1, 128, 11]⟩
abbrev S4x4 : Shape := ⟨2, ![4, 4]⟩
abbrev S4 : Shape := ⟨1, ![4]⟩
abbrev S_ : Shape := ⟨0, ![]⟩
abbrev S1x4 : Shape := ⟨2, ![1, 4]⟩

class Facts : Prop where
  bcast_S_S4x4 : S_.BroadcastsInDim S4x4 (![] : Fin 0 → Fin S4x4.rank)
  bcast_S_S4 : S_.BroadcastsInDim S4 (![] : Fin 0 → Fin S4.rank)
  bcast_S4_S1x4_1 : S4.BroadcastsInDim S1x4 (![1] : Fin 1 → Fin S1x4.rank)
  bcast_S1x4_S4x4_0_1 : S1x4.BroadcastsInDim S4x4 (![0, 1] : Fin 2 → Fin S4x4.rank)

variable [Facts]

def fn {F : FTy → Type} [FloatOps F] (main_arg0 : FVec F S16384x128 .f32) (main_arg1 : FVec F S1x128x11 .f32) (main_arg2 : FVec F S4x4 .f32) (main_arg3 : FVec F S4 .f32) : IVec S4x4 1 :=
  let main_v0 : FVec F S4x4 .f32 := Host.absf main_arg2
  let main_cst : FVec F S_ .f32 := constant S_ .f32 0x7F800000#32
  let main_v1 : FVec F S4x4 .f32 := broadcastInDim S4x4 ![] bcast_S_S4x4 main_cst
  let main_v2 : IVec S4x4 1 := cmpf .olt main_v0 main_v1
  let main_v3 : FVec F S4 .f32 := Host.absf main_arg3
  let main_cst_0 : FVec F S_ .f32 := constant S_ .f32 0x7F800000#32
  let main_v4 : FVec F S4 .f32 := broadcastInDim S4 ![] bcast_S_S4 main_cst_0
  let main_v5 : IVec S4 1 := cmpf .olt main_v3 main_v4
  let main_v6 : IVec S1x4 1 := broadcastInDim S1x4 ![1] bcast_S4_S1x4_1 main_v5
  let main_v7 : IVec S4x4 1 := broadcastInDim S4x4 ![0, 1] bcast_S1x4_S4x4_0_1 main_v6
  let main_v8 : IVec S4x4 1 := andi main_v2 main_v7
  main_v8
-- ==== Kernel.lean ====
abbrev S16384x128 : Shape := ⟨2, ![16384, 128]⟩
abbrev S1x128x11 : Shape := ⟨3, ![1, 128, 11]⟩
abbrev S4x4 : Shape := ⟨2, ![4, 4]⟩
abbrev S4 : Shape := ⟨1, ![4]⟩
abbrev S20 : Shape := ⟨1, ![20]⟩
abbrev S128x11 : Shape := ⟨2, ![128, 11]⟩
abbrev S_ : Shape := ⟨0, ![]⟩
abbrev S11 : Shape := ⟨1, ![11]⟩
abbrev S1x11 : Shape := ⟨2, ![1, 11]⟩
abbrev S128x128 : Shape := ⟨2, ![128, 128]⟩
abbrev S20x1 : Shape := ⟨2, ![20, 1]⟩
abbrev S128x20 : Shape := ⟨2, ![128, 20]⟩
abbrev S1 : Shape := ⟨1, ![1]⟩
abbrev S4x1 : Shape := ⟨2, ![4, 1]⟩
abbrev S1x4 : Shape := ⟨2, ![1, 4]⟩
abbrev S4x4x1 : Shape := ⟨3, ![4, 4, 1]⟩
abbrev S4x4x2 : Shape := ⟨3, ![4, 4, 2]⟩
abbrev S1x128 : Shape := ⟨2, ![1, 128]⟩
abbrev S2 : Shape := ⟨1, ![2]⟩
abbrev S16384x4 : Shape := ⟨2, ![16384, 4]⟩
abbrev S1024x128 : Shape := ⟨2, ![1024, 128]⟩
abbrev S1024x4 : Shape := ⟨2, ![1024, 4]⟩
abbrev S1024x127 : Shape := ⟨2, ![1024, 127]⟩
abbrev S1024x1 : Shape := ⟨2, ![1024, 1]⟩
abbrev S1024x126 : Shape := ⟨2, ![1024, 126]⟩
abbrev S1024x2 : Shape := ⟨2, ![1024, 2]⟩
abbrev S1024x124 : Shape := ⟨2, ![1024, 124]⟩

abbrev nBuf : Space → Nat
  | .hbm => 77
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S1x128x11, .f32⟩
  | .hbm, ⟨2, _⟩ => ⟨S4x4, .f32⟩
  | .hbm, ⟨3, _⟩ => ⟨S4, .f32⟩
  | .hbm, ⟨4, _⟩ => ⟨S20, .i32⟩
  | .hbm, ⟨5, _⟩ => ⟨S20, .i1⟩
  | .hbm, ⟨6, _⟩ => ⟨S128x11, .f32⟩
  | .hbm, ⟨7, _⟩ => ⟨S128x11, .f32⟩
  | .hbm, ⟨8, _⟩ => ⟨S_, .f32⟩
  | .hbm, ⟨9, _⟩ => ⟨S11, .f32⟩
  | .hbm, ⟨10, _⟩ => ⟨S1x11, .f32⟩
  | .hbm, ⟨11, _⟩ => ⟨S1x11, .f32⟩
  | .hbm, ⟨12, _⟩ => ⟨S_, .f32⟩
  | .hbm, ⟨13, _⟩ => ⟨S1x11, .f32⟩
  | .hbm, ⟨14, _⟩ => ⟨S1x11, .f32⟩
  | .hbm, ⟨15, _⟩ => ⟨S128x11, .f32⟩
  | .hbm, ⟨16, _⟩ => ⟨S128x11, .f32⟩
  | .hbm, ⟨17, _⟩ => ⟨S_, .f32⟩
  | .hbm, ⟨18, _⟩ => ⟨S128x128, .f32⟩
  | .hbm, ⟨19, _⟩ => ⟨S_, .i32⟩
  | .hbm, ⟨20, _⟩ => ⟨S20, .i32⟩
  | .hbm, ⟨21, _⟩ => ⟨S20, .i32⟩
  | .hbm, ⟨22, _⟩ => ⟨S20, .i32⟩
  | .hbm, ⟨23, _⟩ => ⟨S20x1, .i32⟩
  | .hbm, ⟨24, _⟩ => ⟨S128x20, .f32⟩
  | .hbm, ⟨25, _⟩ => ⟨S_, .i32⟩
  | .hbm, ⟨26, _⟩ => ⟨S1, .i32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S4, .i32⟩
  | .hbm, ⟨31, _⟩ => ⟨S4x1, .i32⟩
  | .hbm, ⟨32, _⟩ => ⟨S_, .i32⟩
  | .hbm, ⟨33, _⟩ => ⟨S4x1, .i32⟩
  | .hbm, ⟨34, _⟩ => ⟨S4x1, .i32⟩
  | .hbm, ⟨35, _⟩ => ⟨S4, .i32⟩
  | .hbm, ⟨36, _⟩ => ⟨S1x4, .i32⟩
  | .hbm, ⟨37, _⟩ => ⟨S4x4, .f32⟩
  | .hbm, ⟨38, _⟩ => ⟨S_, .i32⟩
  | .hbm, ⟨39, _⟩ => ⟨S4x1, .i32⟩
  | .hbm, ⟨40, _⟩ => ⟨S4x1, .i1⟩
  | .hbm, ⟨41, _⟩ => ⟨S_, .i32⟩
  | .hbm, ⟨42, _⟩ => ⟨S4x1, .i32⟩
  | .hbm, ⟨43, _⟩ => ⟨S4x1, .i32⟩
  | .hbm, ⟨44, _⟩ => ⟨S4x1, .i32⟩
  | .hbm, ⟨45, _⟩ => ⟨S_, .i32⟩
  | .hbm, ⟨46, _⟩ => ⟨S1x4, .i32⟩
  | .hbm, ⟨47, _⟩ => ⟨S1x4, .i1⟩
  | .hbm, ⟨48, _⟩ => ⟨S_, .i32⟩
  | .hbm, ⟨49, _⟩ => ⟨S1x4, .i32⟩
  | .hbm, ⟨50, _⟩ => ⟨S1x4, .i32⟩
  | .hbm, ⟨51, _⟩ => ⟨S1x4, .i32⟩
  | .hbm, ⟨52, _⟩ => ⟨S4x4, .i32⟩
  | .hbm, ⟨53, _⟩ => ⟨S4x4, .i32⟩
  | .hbm, ⟨54, _⟩ => ⟨S4x4x1, .i32⟩
  | .hbm, ⟨55, _⟩ => ⟨S4x4x1, .i32⟩
  | .hbm, ⟨56, _⟩ => ⟨S4x4x2, .i32⟩
  | .hbm, ⟨57, _⟩ => ⟨S128x128, .f32⟩
  | .hbm, ⟨58, _⟩ => ⟨S4x4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1x128, .f32⟩
  | .hbm, ⟨66, _⟩ => ⟨S4, .f32⟩
  | .hbm, ⟨67, _⟩ => ⟨S4, .f32⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S2, .i32⟩
  | .hbm, ⟨73, _⟩ => ⟨S1x128, .f32⟩
  | .hbm, ⟨74, _⟩ => ⟨S_, .f32⟩
  | .hbm, ⟨75, _⟩ => ⟨S128x128, .f32⟩
  | .hbm, ⟨76, _⟩ => ⟨S16384x4, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S1024x4, .f32⟩
  | .local _ .vmem, ⟨7, _⟩ => ⟨S1024x4, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_9 : Ref sig .tc := ⟨.hbm, 45, rfl⟩
abbrev main_v30 : Ref sig .tc := ⟨.hbm, 46, rfl⟩
abbrev main_v31 : Ref sig .tc := ⟨.hbm, 47, rfl⟩
abbrev main_c_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_14 : Ref sig .tc := ⟨.hbm, 68, rfl⟩
abbrev main_v48 : Ref sig .tc := ⟨.hbm, 69, rfl⟩
abbrev main_c_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_16 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "eps_squared" => some ((126765058482001 / 1267650600228229401496703205376 : ℝ) : EReal)
  | _ => none
-- ==== ReferenceIdeal.lean ====
abbrev S16384x128 : Shape := ⟨2, ![16384, 128]⟩
abbrev S1x128x11 : Shape := ⟨3, ![1, 128, 11]⟩
abbrev S4x4 : Shape := ⟨2, ![4, 4]⟩
abbrev S4 : Shape := ⟨1, ![4]⟩
abbrev S11 : Shape := ⟨1, ![11]⟩
abbrev S128x11 : Shape := ⟨2, ![128, 11]⟩
abbrev S16384x11 : Shape := ⟨2, ![16384, 11]⟩
abbrev S_ : Shape := ⟨0, ![]⟩
abbrev S16384 : Shape := ⟨1, ![16384]⟩
abbrev S16384x1 : Shape := ⟨2, ![16384, 1]⟩
abbrev S1x11 : Shape := ⟨2, ![1, 11]⟩
abbrev S4x1 : Shape := ⟨2, ![4, 1]⟩
abbrev S4x11 : Shape := ⟨2, ![4, 11]⟩
abbrev S1x4x11 : Shape := ⟨3, ![1, 4, 11]⟩
abbrev S16384x1x11 : Shape := ⟨3, ![16384, 1, 11]⟩
abbrev S16384x4x11 : Shape := ⟨3, ![16384, 4, 11]⟩
abbrev S16384x4 : Shape := ⟨2, ![16384, 4]⟩
abbrev S1x4 : Shape := ⟨2, ![1, 4]⟩

abbrev nBuf : Space → Nat
  | .hbm => 62
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x128x11, .f32⟩
  | .hbm, ⟨2, _⟩ => ⟨S4x4, .f32⟩
  | .hbm, ⟨3, _⟩ => ⟨S4, .f32⟩
  | .hbm, ⟨4, _⟩ => ⟨S11, .i32⟩
  | .hbm, ⟨5, _⟩ => ⟨S128x11, .f32⟩
  | .hbm, ⟨6, _⟩ => ⟨S16384x11, .f32⟩
  | .hbm, ⟨7, _⟩ => ⟨S16384x128, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S16384x1, .f32⟩
  | .hbm, ⟨12, _⟩ => ⟨S128x11, .f32⟩
  | .hbm, ⟨13, _⟩ => ⟨S_, .f32⟩
  | .hbm, ⟨14, _⟩ => ⟨S11, .f32⟩
  | .hbm, ⟨15, _⟩ => ⟨S1x11, .f32⟩
  | .hbm, ⟨16, _⟩ => ⟨S1x11, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S1x11, .f32⟩
  | .hbm, ⟨22, _⟩ => ⟨S1x11, .f32⟩
  | .hbm, ⟨23, _⟩ => ⟨S16384x11, .f32⟩
  | .hbm, ⟨24, _⟩ => ⟨S16384x11, .f32⟩
  | .hbm, ⟨25, _⟩ => ⟨S16384x11, .f32⟩
  | .hbm, ⟨26, _⟩ => ⟨S16384x11, .f32⟩
  | .hbm, ⟨27, _⟩ => ⟨S1x11, .i32⟩
  | .hbm, ⟨28, _⟩ => ⟨S4, .i32⟩
  | .hbm, ⟨29, _⟩ => ⟨S4x1, .i32⟩
  | .hbm, ⟨30, _⟩ => ⟨S4x11, .i32⟩
  | .hbm, ⟨31, _⟩ => ⟨S4x11, .i32⟩
  | .hbm, ⟨32, _⟩ => ⟨S4x11, .i1⟩
  | .hbm, ⟨33, _⟩ => ⟨S1x4x11, .i1⟩
  | .hbm, ⟨34, _⟩ => ⟨S16384x1x11, .f32⟩
  | .hbm, ⟨35, _⟩ => ⟨S_, .f32⟩
  | .hbm, ⟨36, _⟩ => ⟨S_, .f32⟩
  | .hbm, ⟨37, _⟩ => ⟨S16384x4x11, .i1⟩
  | .hbm, ⟨38, _⟩ => ⟨S16384x4x11, .f32⟩
  | .hbm, ⟨39, _⟩ => ⟨S16384x4x11, .f32⟩
  | .hbm, ⟨40, _⟩ => ⟨S16384x4x11, .f32⟩
  | .hbm, ⟨41, _⟩ => ⟨S_, .f32⟩
  | .hbm, ⟨42, _⟩ => ⟨S16384x4, .f32⟩
  | .hbm, ⟨43, _⟩ => ⟨S4x4, .f32⟩
  | .hbm, ⟨44, _⟩ => ⟨S16384x4, .f32⟩
  | .hbm, ⟨45, _⟩ => ⟨S1x4, .f32⟩
  | .hbm, ⟨46, _⟩ => ⟨S16384x4, .f32⟩
  | .hbm, ⟨47, _⟩ => ⟨S16384x4, .f32⟩
  | .hbm, ⟨48, _⟩ => ⟨S_, .f32⟩
  | .hbm, ⟨49, _⟩ => ⟨S16384, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S16384x1, .f32⟩
  | .hbm, ⟨54, _⟩ => ⟨S16384x4, .f32⟩
  | .hbm, ⟨55, _⟩ => ⟨S16384x4, .f32⟩
  | .hbm, ⟨56, _⟩ => ⟨S16384x4, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S16384x4, .f32⟩
  | .hbm, ⟨61, _⟩ => ⟨S16384x4, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.Terms.lean ====
module

public import proofs.«01_k».proof.Proof.Gen.KernelIdeal.Value

@[expose] public section

noncomputable section

namespace Cert.Cosine

open Idealize.ShloMosaic

/-- The floor under a norm: the f32 nearest to 1e-8, as the extended real it denotes. -/
def eps : EReal := Ideal.ofBits .f32 0x322BCC77#32

/-- The sum of the squares of a vector's 128 entries. -/
def sumSq (f : Fin 128 → EReal) : EReal := ∑ d : Fin 128, f d * f d

/-- A vector's norm, not below `eps`. -/
def norm (f : Fin 128 → EReal) : EReal := max (Ideal.sqrt (sumSq f)) eps

/-- The inner product of two vectors of 128 entries. -/
def dot (f g : Fin 128 → EReal) : EReal := ∑ d : Fin 128, f d * g d

/-- A word's vector over its norm: what the kernel multiplies the rows by. -/
def unit (f : Fin 128 → EReal) (d : Fin 128) : EReal := Ideal.div (f d) (norm f)

/-- The cosine similarity of two vectors, as the reference divides it. -/
def cosine (f g : Fin 128 → EReal) : EReal := Ideal.div (dot f g) (norm f * norm g)

/-- The word that each of the twenty replicated columns carries: five columns for each of the four actions. -/
def word : Fin 20 → Fin 11 := ![0, 1, 2, 3, 0, 4, 5, 6, 7, 8, 9, 9, 9, 9, 9, 10, 10, 10, 10, 10]

/-- The action that each word votes for. -/
def action : Fin 11 → Fin 4 := ![0, 0, 0, 0, 1, 1, 1, 1, 1, 2, 3]

/-- An action's vote, as the reference pools it: the greatest cosine similarity of its words. -/
def vote (x : Fin 128 → EReal) (v : Fin 11 → Fin 128 → EReal) (a : Fin 4) : EReal :=
  (Finset.univ : Finset (Fin 11)).fold max ⊥ fun p => if action p = a then cosine x (v p) else ⊥

/-- Logit `j` of the reference: the votes against row `j` of the weights, and the bias. -/
def score (x : Fin 128 → EReal) (v : Fin 11 → Fin 128 → EReal) (w : Fin 4 → Fin 4 → EReal) (b : Fin 4 → EReal) (j : Fin 4) : EReal :=
  (∑ a : Fin 4, vote x v a * w j a) + b j

/-- The greatest of four logits. -/
def top (l : Fin 4 → EReal) : EReal := max ⊥ ((Finset.univ : Finset (Fin 4)).fold max ⊥ l)

/-- The softmax of four logits, as the reference computes it: shifted by the greatest. -/
def softmax (l : Fin 4 → EReal) (j : Fin 4) : EReal :=
  Ideal.div (Ideal.exp (l j - top l)) (∑ k : Fin 4, Ideal.exp (l k - top l))

/-- The word of minus infinity denotes the least extended real. -/
theorem ofBits_neg_inf : Ideal.ofBits .f32 0xFF800000#32 = ⊥ := by
  simp [Ideal.ofBits, Ideal.ieee]

/-- The word of plus infinity denotes the greatest extended real. -/
theorem ofBits_pos_inf : Ideal.ofBits .f32 0x7F800000#32 = ⊤ := by
  simp [Ideal.ofBits, Ideal.ieee]

/-- The floor under a norm is the real number 11258999 / 2⁵⁰. -/
theorem eps_eq : eps = ((11258999 / 2 ^ 50 : ℝ) : EReal) := by
  unfold eps
  simp [Ideal.ofBits, Ideal.ieee, -EReal.coe_mul]
  norm_num

end Cert.Cosine

end
-- ==== Proof.Algebra.lean ====
module

public import proofs.«01_k».proof.Proof.Terms

@[expose] public section

noncomputable section

namespace Cert.Cosine

open Idealize.ShloMosaic

/-! ## Norms -/

/-- The floor under a norm is positive. -/
theorem eps_pos : 0 < eps := by
  rw [eps_eq]
  exact EReal.coe_pos.2 (by norm_num)

/-- A square is not negative. -/
theorem mul_self_nonneg (a : EReal) : 0 ≤ a * a := by
  rcases le_total 0 a with h | h
  · exact mul_nonneg h h
  · exact EReal.mul_nonneg_iff.2 (Or.inr ⟨h, h⟩)

/-- A sum of squares is not negative. -/
theorem sumSq_nonneg (f : Fin 128 → EReal) : 0 ≤ sumSq f :=
  Finset.sum_nonneg fun d _ => mul_self_nonneg (f d)

/-- A norm is positive. -/
theorem norm_pos (f : Fin 128 → EReal) : 0 < norm f := lt_of_lt_of_le eps_pos (le_max_right _ _)

/-- A norm is not zero. -/
theorem norm_ne_zero (f : Fin 128 → EReal) : norm f ≠ 0 := (norm_pos f).ne'

/-- A norm's reciprocal is not negative. -/
theorem inv_norm_nonneg (f : Fin 128 → EReal) : 0 ≤ (norm f)⁻¹ := EReal.inv_nonneg_of_nonneg (norm_pos f).le

/-- A norm's reciprocal is not infinite. -/
theorem inv_norm_ne_top (f : Fin 128 → EReal) : (norm f)⁻¹ ≠ ⊤ := (EReal.inv_lt_top _).ne

/-- A norm's reciprocal is a real number. -/
theorem inv_norm_real (f : Fin 128 → EReal) : ∃ t : ℝ, (norm f)⁻¹ = (t : EReal) :=
  ⟨_, (EReal.coe_toReal (inv_norm_ne_top f) (EReal.bot_lt_inv _).ne').symm⟩

/-- A word's unit vector is its vector times the reciprocal of its norm. -/
theorem unit_eq (f : Fin 128 → EReal) (d : Fin 128) : unit f d = f d * (norm f)⁻¹ := by
  unfold unit Ideal.div
  rw [if_neg (norm_ne_zero f)]

/-- The reciprocal root that the kernel takes is the reciprocal of the norm. -/
theorem rsqrt_eq (f : Fin 128 → EReal) : Ideal.rsqrt (max (sumSq f) (eps * eps)) = (norm f)⁻¹ := by
  have h0 := sumSq_nonneg f
  unfold norm
  rw [eps_eq]
  generalize he : (11258999 / 2 ^ 50 : ℝ) = e
  have hp : 0 < e := by rw [← he]; norm_num
  generalize sumSq f = s at h0 ⊢
  induction s with
  | bot => exact absurd h0 (by simp)
  | top => simp
  | coe s =>
    have hs : 0 ≤ s := EReal.coe_nonneg.1 h0
    rw [← EReal.coe_mul, ← EReal.coe_strictMono.monotone.map_max, Ideal.sqrt_coe, if_neg hs.not_gt, ← EReal.coe_strictMono.monotone.map_max,
      Ideal.rsqrt_coe, if_neg, if_neg, ← EReal.coe_inv]
    · congr 2
      rw [Real.sqrt_monotone.map_max, Real.sqrt_mul_self hp.le]
    · exact (lt_max_of_lt_right (mul_pos hp hp)).ne'
    · exact (lt_max_of_lt_right (mul_pos hp hp)).not_gt

/-- A nonnegative finite factor moves out of a sum, at the infinities too. -/
theorem sum_mul_of_nonneg {n : ℕ} (f : Fin n → EReal) (t : EReal) (h : 0 ≤ t) (h' : t ≠ ⊤) : ∑ d, f d * t = (∑ d, f d) * t := by
  induction (Finset.univ : Finset (Fin n)) using Finset.induction_on with
  | empty => simp
  | insert a s ha ih => rw [Finset.sum_insert ha, Finset.sum_insert ha, ih, EReal.right_distrib_of_nonneg_of_ne_top h h']

/-- A row against a word's unit vector, times the reciprocal root of the row: the cosine similarity. -/
theorem unit_dot (x v : Fin 128 → EReal) :
    (∑ d : Fin 128, x d * unit v d) * Ideal.rsqrt (max (sumSq x) (eps * eps)) = cosine x v := by
  have e : ∀ d, x d * unit v d = x d * v d * (norm v)⁻¹ := fun d => by rw [unit_eq, mul_assoc]
  simp only [e]
  rw [sum_mul_of_nonneg _ _ (inv_norm_nonneg v) (inv_norm_ne_top v), rsqrt_eq, mul_assoc, mul_comm (norm v)⁻¹, ← EReal.mul_inv]
  unfold cosine Ideal.div dot
  rw [if_neg (mul_ne_zero (norm_ne_zero x) (norm_ne_zero v))]

/-! ## Real numbers among the extended reals -/

/-- An extended real that is a real number. -/
def IsReal (a : EReal) : Prop := ∃ r : ℝ, a = (r : EReal)

/-- A sum of real numbers is one. -/
theorem isReal_sum {n : ℕ} (f : Fin n → EReal) (h : ∀ i, IsReal (f i)) : IsReal (∑ i, f i) := by
  choose g hg using h
  refine ⟨∑ i, g i, ?_⟩
  simp only [hg]
  induction (Finset.univ : Finset (Fin n)) using Finset.induction_on with
  | empty => simp
  | insert a s ha ih => rw [Finset.sum_insert ha, Finset.sum_insert ha, ih, EReal.coe_add]

/-- A product of real numbers is one. -/
theorem isReal_mul {a b : EReal} (ha : IsReal a) (hb : IsReal b) : IsReal (a * b) := by
  obtain ⟨r, rfl⟩ := ha
  obtain ⟨s, rfl⟩ := hb
  exact ⟨r * s, (EReal.coe_mul r s).symm⟩

/-- A sum of two real numbers is one. -/
theorem isReal_add {a b : EReal} (ha : IsReal a) (hb : IsReal b) : IsReal (a + b) := by
  obtain ⟨r, rfl⟩ := ha
  obtain ⟨s, rfl⟩ := hb
  exact ⟨r + s, (EReal.coe_add r s).symm⟩

/-- The negative of a real number is one. -/
theorem isReal_neg {a : EReal} (ha : IsReal a) : IsReal (-a) := by
  obtain ⟨r, rfl⟩ := ha
  exact ⟨-r, (EReal.coe_neg r).symm⟩

/-- The greater of two real numbers is one. -/
theorem isReal_max {a b : EReal} (ha : IsReal a) (hb : IsReal b) : IsReal (max a b) := by
  rcases max_choice a b with h | h <;> rw [h] <;> assumption

/-- An extended real between the infinities is a real number. -/
theorem isReal_of_ne {a : EReal} (h : a ≠ ⊥) (h' : a ≠ ⊤) : IsReal a := ⟨_, (EReal.coe_toReal h' h).symm⟩

/-- An extended real whose absolute value is below plus infinity is a real number. -/
theorem isReal_of_abs {a : EReal} (h : max a (-a) < ⊤) : IsReal a := by
  obtain ⟨h1, h2⟩ := max_lt_iff.1 h
  refine isReal_of_ne (fun e => ?_) h1.ne
  rw [e] at h2
  simp at h2

/-- Entries whose squares have a finite sum are real numbers. -/
theorem isReal_of_sumSq {f : Fin 128 → EReal} (h : sumSq f ≠ ⊤) (d : Fin 128) : IsReal (f d) := by
  have hle : f d * f d ≤ sumSq f := Finset.single_le_sum (f := fun d => f d * f d) (fun d _ => mul_self_nonneg (f d)) (Finset.mem_univ d)
  have hlt : f d * f d ≠ ⊤ := (lt_of_le_of_lt hle (lt_top_iff_ne_top.2 h)).ne
  refine isReal_of_ne (fun e => hlt ?_) (fun e => hlt ?_) <;> rw [e] <;> simp

/-- Where the norm is infinite its reciprocal is zero; elsewhere every entry is a real number. -/
theorem inv_norm_cases (f : Fin 128 → EReal) : (norm f)⁻¹ = 0 ∨ ∀ d, IsReal (f d) := by
  by_cases h : sumSq f = ⊤
  · left
    unfold norm
    rw [h]
    simp
  · exact Or.inr (isReal_of_sumSq h)

/-- A cosine similarity is a real number, whatever the two vectors hold. -/
theorem isReal_cosine (x v : Fin 128 → EReal) : IsReal (cosine x v) := by
  have e : cosine x v = dot x v * ((norm x)⁻¹ * (norm v)⁻¹) := by
    unfold cosine Ideal.div
    rw [if_neg (mul_ne_zero (norm_ne_zero x) (norm_ne_zero v)), EReal.mul_inv]
  rw [e]
  rcases inv_norm_cases x with hx | hx
  · exact ⟨0, by rw [hx]; simp⟩
  rcases inv_norm_cases v with hv | hv
  · exact ⟨0, by rw [hv]; simp⟩
  exact isReal_mul (isReal_sum _ fun d => isReal_mul (hx d) (hv d)) (isReal_mul (inv_norm_real x) (inv_norm_real v))

/-! ## Votes -/

/-- The word in column `5 a + i` of the replicated words. -/
def member (a : Fin 4) (i : Fin 5) : Fin 11 := word ⟨5 * a.val + i.val, by omega⟩

/-- The words replicated for an action belong to it. -/
theorem action_member : ∀ (a : Fin 4) (i : Fin 5), action (member a i) = a := by decide

/-- The greatest of a function over the five words that are replicated for action `a`. -/
def greatest (g : Fin 11 → EReal) (a : Fin 4) : EReal :=
  max (max (max (g (member a 0)) (g (member a 1))) (max (g (member a 2)) (g (member a 3)))) (g (member a 4))

/-- The five replicated words of an action are the words that vote for it: the greatest similarity is the vote. -/
theorem greatest_eq (x : Fin 128 → EReal) (v : Fin 11 → Fin 128 → EReal) (a : Fin 4) : greatest (fun p => cosine x (v p)) a = vote x v a := by
  unfold vote greatest
  generalize hg : (fun p => cosine x (v p)) = g
  have hg' : ∀ p, cosine x (v p) = g p := fun p => congrFun hg p
  simp only [hg']
  refine eq_of_forall_ge_iff fun c => ?_
  rw [Finset.fold_max_le]
  simp only [max_le_iff, bot_le, true_and, Finset.mem_univ, forall_const]
  constructor
  · rintro ⟨⟨⟨h0, h1⟩, h2, h3⟩, h4⟩ p
    split
    · next e =>
      revert e
      fin_cases a <;> fin_cases p <;> intro e <;> first | assumption | exact absurd e (by decide)
    · exact bot_le
  · intro h
    have k : ∀ i : Fin 5, g (member a i) ≤ c := fun i => by
      have := h (member a i)
      rwa [if_pos (action_member a i)] at this
    exact ⟨⟨⟨k 0, k 1⟩, k 2, k 3⟩, k 4⟩

/-- A vote is a real number. -/
theorem isReal_vote (x : Fin 128 → EReal) (v : Fin 11 → Fin 128 → EReal) (a : Fin 4) : IsReal (vote x v a) := by
  rw [← greatest_eq]
  unfold greatest
  exact isReal_max (isReal_max (isReal_max (isReal_cosine _ _) (isReal_cosine _ _)) (isReal_max (isReal_cosine _ _) (isReal_cosine _ _)))
    (isReal_cosine _ _)

/-- A nonnegative factor moves into the greater of two. -/
theorem max_mul (a b t : EReal) (h : 0 ≤ t) : max a b * t = max (a * t) (b * t) :=
  (show Monotone fun y : EReal => y * t from fun _ _ l => mul_le_mul_of_nonneg_right l h).map_max

/-- The greatest of the five lanes of an action, times the reciprocal root of the row: the vote. -/
theorem greatest_unit (x : Fin 128 → EReal) (v : Fin 11 → Fin 128 → EReal) (a : Fin 4) :
    greatest (fun p => ∑ d : Fin 128, x d * unit (v p) d) a * Ideal.rsqrt (max (sumSq x) (eps * eps)) = vote x v a := by
  have h : 0 ≤ Ideal.rsqrt (max (sumSq x) (eps * eps)) := by rw [rsqrt_eq]; exact inv_norm_nonneg x
  rw [← greatest_eq]
  unfold greatest
  rw [max_mul _ _ _ h, max_mul _ _ _ h, max_mul _ _ _ h, max_mul _ _ _ h]
  simp only [unit_dot]

/-! ## Softmax -/

/-- The greatest of four real numbers, folded from minus infinity, is one. -/
theorem isReal_fold (l : Fin 4 → EReal) (h : ∀ j, IsReal (l j)) : IsReal ((Finset.univ : Finset (Fin 4)).fold max ⊥ l) := by
  have e : (Finset.univ : Finset (Fin 4)).fold max ⊥ l = max (max (max (l 0) (l 1)) (l 2)) (l 3) := by
    refine eq_of_forall_ge_iff fun c => ?_
    simp only [max_le_iff, Finset.fold_max_le, bot_le, true_and, Finset.mem_univ, forall_const, Fin.forall_fin_succ, IsEmpty.forall_iff, and_true]
    simp [and_assoc]
  rw [e]
  exact isReal_max (isReal_max (isReal_max (h _) (h _)) (h _)) (h _)

/-- What the reference's softmax subtracts from real logits is a real number. -/
theorem isReal_top (l : Fin 4 → EReal) (h : ∀ j, IsReal (l j)) : IsReal (top l) := by
  unfold top
  rw [max_eq_right bot_le]
  exact isReal_fold l h

/-- A sum of four exponentials of real numbers is the real sum. -/
theorem sum_exp_coe (g : Fin 4 → ℝ) : ∑ k : Fin 4, Ideal.exp (g k : EReal) = ((∑ k : Fin 4, Real.exp (g k) : ℝ) : EReal) := by
  simp only [Ideal.exp_coe, Fin.sum_univ_four, EReal.coe_add]

/-- The real identity: a softmax does not change when every logit is shifted by the same number. -/
theorem softmax_real (y b : Fin 4 → ℝ) (u M : ℝ) (j : Fin 4) :
    Real.exp (y j + (b j - u)) * (1 / ∑ k : Fin 4, Real.exp (y k + (b k - u)))
      = Real.exp (y j + b j - M) * (1 / ∑ k : Fin 4, Real.exp (y k + b k - M)) := by
  have e1 : ∀ k, Real.exp (y k + (b k - u)) = Real.exp (y k + b k) * Real.exp (-u) := fun k => by rw [← Real.exp_add]; ring_nf
  have e2 : ∀ k, Real.exp (y k + b k - M) = Real.exp (y k + b k) * Real.exp (-M) := fun k => by rw [← Real.exp_add]; ring_nf
  simp only [e1, e2, ← Finset.sum_mul]
  have p : 0 < ∑ k : Fin 4, Real.exp (y k + b k) := Finset.sum_pos (fun k _ => Real.exp_pos _) Finset.univ_nonempty
  have p1 := Real.exp_pos (-u)
  have p2 := Real.exp_pos (-M)
  field_simp

/-- The kernel's softmax, each bias less one real number and a product with the reciprocal of the sum, is the reference's. -/
theorem softmax_eq (y b : Fin 4 → EReal) (u : EReal) (hy : ∀ j, IsReal (y j)) (hb : ∀ j, IsReal (b j)) (hu : IsReal u) (j : Fin 4) :
    Ideal.exp (y j + (b j - u)) * Ideal.div 1 (∑ k : Fin 4, Ideal.exp (y k + (b k - u))) = softmax (fun k => y k + b k) j := by
  obtain ⟨M, hM⟩ := isReal_top (fun k => y k + b k) fun k => isReal_add (hy k) (hb k)
  unfold softmax
  rw [hM]
  choose y' ey using hy
  choose b' eb using hb
  obtain ⟨u', rfl⟩ := hu
  simp only [ey, eb, ← EReal.coe_add, ← EReal.coe_sub]
  rw [sum_exp_coe, sum_exp_coe, Ideal.div_coe, Ideal.div_coe, Ideal.exp_coe, Ideal.exp_coe, one_mul, ← EReal.coe_mul, ← EReal.coe_mul, softmax_real y' b' u' M]
  all_goals exact (Finset.sum_pos (fun k _ => Real.exp_pos _) Finset.univ_nonempty).ne'

end Cert.Cosine

end
-- ==== Proof.Block.lean ====
module

public import proofs.«01_k».proof.Proof.Terms
public import Idealize.ShloMosaic.Lib.Pipeline.ValueKit
public import Idealize.ShloMosaic.Lib.Pointwise

@[expose] public section

set_option maxRecDepth 16384

noncomputable section

namespace Cert.Cosine

open Cert.KernelIdeal Cert.KernelIdeal.Gen Idealize.ShloMosaic Idealize.ShloMosaic.TcCoe Idealize.SL.Sem

/-- A row of 128 lanes turned left by `s` lanes, `t` being `128 - s`. -/
def turn (s t : ℕ) (hs : s + t = 128) (n : Fin 128 → EReal) (k : Fin 128) : EReal :=
  if h : k.val < t then n ⟨s + k.val, by omega⟩ else n ⟨k.val - t, by omega⟩

/-- The greatest of a lane and its right neighbour. -/
def pair (n : Fin 128 → EReal) (k : Fin 128) : EReal := max (n k) (turn 1 127 rfl n k)

/-- The greatest of five neighbouring lanes, as the kernel takes it by three turns. -/
def five (n : Fin 128 → EReal) (k : Fin 128) : EReal := max (max (pair n k) (turn 2 126 rfl (pair n) k)) (turn 4 124 rfl n k)

/-- At a lane with four lanes to its right no turn wraps: the greatest of these five. -/
theorem five_apply (n : Fin 128 → EReal) (k : ℕ) (hk : k < 124) :
    five n ⟨k, by omega⟩ = max (max (max (n ⟨k, by omega⟩) (n ⟨1 + k, by omega⟩)) (max (n ⟨2 + k, by omega⟩) (n ⟨1 + (2 + k), by omega⟩))) (n ⟨4 + k, by omega⟩) := by
  unfold five pair turn
  simp only [show k < 127 by omega, show k < 126 by omega, show k < 124 by omega, show 2 + k < 127 by omega, dif_pos]

/-- The constant under the reciprocal root is the square of the floor under a norm. -/
theorem eps_squared : Named.named (F := Ideal) κ "eps_squared" (φ := .f32) 0x24E69595#32 = eps * eps := by
  rw [eps_eq, ← EReal.coe_mul]
  refine (IdealRules.named_const.ideal_named_scalar _ _ _ _ rfl).trans (congrArg _ ?_)
  norm_num

/-- A lane's logit in the block: the pooled lanes against a column of the padded weights, and the bias row's entry. -/
def lane (x : Fin 128 → EReal) (a w : Fin 128 → Fin 128 → EReal) (b : Fin 128 → EReal) (l : Fin 128) : EReal :=
  (∑ k : Fin 128, five (fun k => ∑ d : Fin 128, x d * a d k) k * Ideal.rsqrt (max (sumSq x) (eps * eps)) * w k l) + b l

/-- One entry of the block that a grid point writes, of the blocks it reads. -/
theorem pay_apply (x : Vec Ideal S1024x128 .f32) (a o w : Vec Ideal S128x128 .f32) (b : Vec Ideal S1x128 .f32)
    (ho : ∀ k l : Fin 128, o (ix2 k l) = (1 : EReal)) (r : Fin 1024) (j : Fin 4) :
    k0_pay1 (F := Ideal) x a o w b o (ix2 r j)
      = Ideal.exp (lane (fun d => x (ix2 r d)) (fun k l => a (ix2 k l)) (fun k l => w (ix2 k l)) (fun l => b (ix2 0 l)) ⟨j.val, by omega⟩)
        * Ideal.div 1 (∑ l : Fin 128, Ideal.exp (lane (fun d => x (ix2 r d)) (fun k l => a (ix2 k l)) (fun k l => w (ix2 k l)) (fun l => b (ix2 0 l)) l)) := by
  pointwise [k0_pay1]
  simp only [ho, mul_one, lane, five, pair, turn, sumSq, eps_squared]

end Cert.Cosine

end
-- ==== Proof.Host.lean ====
module

public import proofs.«01_k».proof.Proof.Terms
public import Idealize.ShloMosaic.Lib.Pipeline.ValueKit
public import Idealize.ShloMosaic.Lib.Pointwise
public import Idealize.ShloMosaic.Lib.Routing.OpsSet
public import Idealize.ShloMosaic.Lib.Routing.OpsPair
public import Idealize.ShloMosaic.Lib.StableHlo.ReadAt

@[expose] public section

set_option maxRecDepth 16384

noncomputable section

namespace Cert.Cosine

open Cert.KernelIdeal Cert.KernelIdeal.Gen Idealize.ShloMosaic Idealize.ShloMosaic.TcCoe Idealize.SL.Sem

/-! ## Where the host's gather reads and where its scatters write -/

/-- Entry `(a, p)` of the block of replicated words, scattered at column 0, lands at `(a, p)`. -/
theorem lands_block (idx : IVec S1 32) (h0 : idx (ix1 0) = 0#32) (a : Fin 128) (p : Fin 20) (k l : Fin 128) :
    scatter_S128x128_S1_S128x20_01_n_1_0.resultIdx? (ix2 a p) idx = some (ix2 k l) ↔ a = k ∧ p.val = l.val := by
  have w0 : scatter_S128x128_S1_S128x20_01_n_1_0.window (ix2 a p) 0 = a.val := rfl
  have w1 : scatter_S128x128_S1_S128x20_01_n_1_0.window (ix2 a p) 1 = p.val := rfl
  have s0 : scatter_S128x128_S1_S128x20_01_n_1_0.start (ix2 a p) idx 0 = 0 := rfl
  have s1 : scatter_S128x128_S1_S128x20_01_n_1_0.start (ix2 a p) idx 1 = 0 := by
    have e : scatter_S128x128_S1_S128x20_01_n_1_0.start (ix2 a p) idx 1 = (idx (ix1 0)).toInt := by
      unfold ScatterDims.start
      rw [dif_pos (by decide)]
      congr 2
      funext b
      fin_cases b; rfl
    rw [e, h0]; rfl
  rw [Routing.resultIdx?_eq_some]
  constructor
  · intro h
    have e0 := h 0
    have e1 := h 1
    rw [w0, s0] at e0
    rw [w1, s1] at e1
    refine ⟨Fin.ext ?_, ?_⟩
    · have : (a.val : Int) = k.val := by simpa using e0
      omega
    · have : (p.val : Int) = l.val := by simpa using e1
      omega
  · rintro ⟨rfl, e⟩ b
    match b with
    | ⟨0, _⟩ => exact by rw [show (⟨0, _⟩ : Fin 2) = 0 from rfl, w0, s0]; simp
    | ⟨1, _⟩ => exact by rw [show (⟨1, _⟩ : Fin 2) = 1 from rfl, w1, s1]; simp [e]

/-- Entry `(a, b)` of the transposed vote weights lands at the row and column that its two index words name. -/
theorem lands_pair (idx : IVec S4x4x2 32) (a b : Fin 4) (k l : Fin 128) :
    scatter_S128x128_S4x4x2_S4x4_n_01_01_2.resultIdx? (ix2 a b) idx = some (ix2 k l)
      ↔ (idx (ix3 a b 0)).toInt = k.val ∧ (idx (ix3 a b 1)).toInt = l.val := by
  rw [ix2_eq_valueIdx, ix2_eq_valueIdx, ix3_eq_valueIdx, ix3_eq_valueIdx]
  exact Routing.scatter_lands2 scatter_S128x128_S4x4x2_S4x4_n_01_01_2 rfl rfl rfl idx a b k l

/-- Entry `p` of the bias row, scattered at `(0, 0)`, lands at column `p`. -/
theorem lands_row (idx : IVec S2 32) (h0 : idx (ix1 0) = 0#32) (h1 : idx (ix1 1) = 0#32) (p : Fin 4) (l : Fin 128) :
    scatter_S1x128_S2_S4_0_0_01_0.resultIdx? (ix1 p) idx = some (ix2 0 l) ↔ p.val = l.val := by
  have w0 : scatter_S1x128_S2_S4_0_0_01_0.window (ix1 p) 0 = 0 := rfl
  have w1 : scatter_S1x128_S2_S4_0_0_01_0.window (ix1 p) 1 = p.val := rfl
  have s : ∀ q : Fin 2, scatter_S1x128_S2_S4_0_0_01_0.start (ix1 p) idx q = (idx (ix1 q)).toInt := by
    intro q
    unfold ScatterDims.start
    rw [dif_pos (by fin_cases q <;> decide)]
    congr 2
    funext b
    fin_cases q <;> fin_cases b <;> rfl
  have s0 : scatter_S1x128_S2_S4_0_0_01_0.start (ix1 p) idx 0 = 0 := by rw [s 0, h0]; rfl
  have s1 : scatter_S1x128_S2_S4_0_0_01_0.start (ix1 p) idx 1 = 0 := by rw [s 1, h1]; rfl
  rw [Routing.resultIdx?_eq_some]
  constructor
  · intro h
    have e1 := h 1
    rw [w1, s1] at e1
    have : (p.val : Int) = l.val := by simpa using e1
    omega
  · intro e b
    match b with
    | ⟨0, _⟩ => exact by rw [show (⟨0, _⟩ : Fin 2) = 0 from rfl, w0, s0]; simp
    | ⟨1, _⟩ => exact by rw [show (⟨1, _⟩ : Fin 2) = 1 from rfl, w1, s1]; simp [e]

/-- The gather of columns: column `p` of its result is the column that index word `p` names. -/
theorem gather_column (x : S128x11.Idx → EReal) (idx : IVec S20x1 32) (k : Fin 128) (p : Fin 20) (q : Fin 11)
    (h : idx (ix2 p 0) = BitVec.ofNat 32 q.val) :
    Host.gather gather_S128x11_S20x1_S128x20_0_1_n_n_1_1_1281 x idx (ix2 k p) = x (ix2 k q) := by
  unfold Host.gather
  refine congrArg x (funext fun a => Fin.ext ?_)
  match a with
  | ⟨0, _⟩ => show 0 + 0 + k.val = k.val; simp
  | ⟨1, _⟩ =>
    have e : gather_S128x11_S20x1_S128x20_0_1_n_n_1_1_1281.start (ix2 k p) idx 1 = min (idx (ix2 p 0)).toInt.toNat 10 := by
      unfold GatherDims.start
      rw [dif_pos (by decide)]
      congr 4
      funext b
      fin_cases b <;> rfl
    show gather_S128x11_S20x1_S128x20_0_1_n_n_1_1_1281.start (ix2 k p) idx 1 + 0 + 0 = q.val
    rw [e, h]
    fin_cases q <;> rfl

/-! ## The four arguments, entry by entry -/

variable (m : (ℓ : Loc nD τ sig) → Buf (Elt Ideal) ℓ) (c : Dev nD)

/-- Row `r` of the embedded words. -/
def row (r : Fin 16384) (d : Fin 128) : EReal := m (c, Proc.tc.devRef main_arg0) (ix2 r d)

/-- Word `p`'s vector. -/
def vec (p : Fin 11) (d : Fin 128) : EReal := m (c, Proc.tc.devRef main_arg1) (ix3 0 d p)

/-- The vote weight of action `a` in logit `j`. -/
def wgt (j a : Fin 4) : EReal := m (c, Proc.tc.devRef main_arg2) (ix2 j a)

/-- The bias of logit `j`. -/
def bias (j : Fin 4) : EReal := m (c, Proc.tc.devRef main_arg3) (ix1 j)

/-- The bound that the kernel's host code subtracts from every bias: the greatest of `Σₐ |W j a| + b j`. -/
def bound : EReal := (Finset.univ : Finset (Fin 4)).fold max ⊥ fun j => (∑ a : Fin 4, max (wgt m c j a) (-wgt m c j a)) + bias m c j

/-! ## The three scatters, entry by entry -/

/-- The block of replicated words fills the first twenty columns. -/
theorem scatter_block (x : S128x128.Idx → EReal) (idx : IVec S1 32) (u : S128x20.Idx → EReal) (h0 : idx (ix1 0) = 0#32) (k l : Fin 128) :
    Host.scatter scatter_S128x128_S1_S128x20_01_n_1_0 (fun _ b => b) x idx u (ix2 k l)
      = if h : l.val < 20 then u (ix2 k ⟨l.val, h⟩) else x (ix2 k l) := by
  by_cases h : l.val < 20
  · rw [dif_pos h]
    refine Routing.scatter_set_hit _ _ _ _ _ _ (fun i hi => ?_) (ix2 k ⟨l.val, h⟩) ((lands_block idx h0 _ _ _ _).2 ⟨rfl, rfl⟩)
    idx_vars i
    obtain ⟨rfl, e⟩ := (lands_block idx h0 _ _ _ _).1 hi
    exact congrArg (fun q => u (ix2 _ q)) (Fin.ext e)
  · rw [dif_neg h]
    refine Routing.scatter_set_miss _ _ _ _ _ fun i hi => ?_
    idx_vars i
    obtain ⟨-, e⟩ := (lands_block idx h0 _ _ _ _).1 hi
    have := i1.isLt
    omega

/-- The transposed vote weights, at a row and a column that are the index words of entry `(a, b)` alone. -/
theorem scatter_pair_hit (x : S128x128.Idx → EReal) (idx : IVec S4x4x2 32) (u : S4x4.Idx → EReal)
    (h0 : ∀ a b : Fin 4, (idx (ix3 a b 0)).toInt = 5 * a.val) (h1 : ∀ a b : Fin 4, (idx (ix3 a b 1)).toInt = b.val)
    (a b : Fin 4) (k l : Fin 128) (hk : k.val = 5 * a.val) (hl : l.val = b.val) :
    Host.scatter scatter_S128x128_S4x4x2_S4x4_n_01_01_2 (fun _ b => b) x idx u (ix2 k l) = u (ix2 a b) := by
  refine Routing.scatter_set_hit _ _ _ _ _ _ (fun i hi => ?_) (ix2 a b) ((lands_pair idx _ _ _ _).2 ⟨?_, ?_⟩)
  · idx_vars i
    obtain ⟨e0, e1⟩ := (lands_pair idx _ _ _ _).1 hi
    rw [h0] at e0
    rw [h1] at e1
    have e2 : i0 = a := Fin.ext (by omega)
    have e3 : i1 = b := Fin.ext (by omega)
    rw [e2, e3]
  · rw [h0]; omega
  · rw [h1]; omega

/-- The same scatter at an entry that no index words name: what it is written over. -/
theorem scatter_pair_miss (x : S128x128.Idx → EReal) (idx : IVec S4x4x2 32) (u : S4x4.Idx → EReal)
    (h0 : ∀ a b : Fin 4, (idx (ix3 a b 0)).toInt = 5 * a.val) (h1 : ∀ a b : Fin 4, (idx (ix3 a b 1)).toInt = b.val)
    (k l : Fin 128) (h : ∀ a b : Fin 4, ¬(k.val = 5 * a.val ∧ l.val = b.val)) :
    Host.scatter scatter_S128x128_S4x4x2_S4x4_n_01_01_2 (fun _ b => b) x idx u (ix2 k l) = x (ix2 k l) := by
  refine Routing.scatter_set_miss _ _ _ _ _ fun i hi => ?_
  idx_vars i
  obtain ⟨e0, e1⟩ := (lands_pair idx _ _ _ _).1 hi
  rw [h0] at e0
  rw [h1] at e1
  exact h i0 i1 ⟨by omega, by omega⟩

/-- The bias row fills the first four columns. -/
theorem scatter_row (x : S1x128.Idx → EReal) (idx : IVec S2 32) (u : S4.Idx → EReal) (h0 : idx (ix1 0) = 0#32) (h1 : idx (ix1 1) = 0#32)
    (l : Fin 128) :
    Host.scatter scatter_S1x128_S2_S4_0_0_01_0 (fun _ b => b) x idx u (ix2 0 l)
      = if h : l.val < 4 then u (ix1 ⟨l.val, h⟩) else x (ix2 0 l) := by
  by_cases h : l.val < 4
  · rw [dif_pos h]
    refine Routing.scatter_set_hit _ _ _ _ _ _ (fun i hi => ?_) (ix1 ⟨l.val, h⟩) ((lands_row idx h0 h1 _ _).2 rfl)
    idx_vars i
    exact congrArg (fun q => u (ix1 q)) (Fin.ext ((lands_row idx h0 h1 _ _).1 hi))
  · rw [dif_neg h]
    refine Routing.scatter_set_miss _ _ _ _ _ fun i hi => ?_
    idx_vars i
    have e := (lands_row idx h0 h1 _ _).1 hi
    have := i0.isLt
    omega

/-! ## The arrays that the grid reads -/

/-- The replicated words: column `l < 20` is the unit vector of its word, the other columns are zero. -/
theorem words_apply (k l : Fin 128) :
    V m c main_v16 (ix2 k l) = if h : l.val < 20 then unit (vec m c (word ⟨l.val, h⟩)) k else (0 : EReal) := by
  unfold V
  after_reads_at
  rw [scatter_block _ _ _ (by pointwise)]
  by_cases h : l.val < 20
  · rw [dif_pos h, dif_pos h, gather_column _ _ k ⟨l.val, h⟩ (word ⟨l.val, h⟩)]
    · pointwise
      rfl
    · pointwise
      generalize (⟨l.val, h⟩ : Fin 20) = p
      fin_cases p <;> rfl
  · rw [dif_neg h, dif_neg h]
    pointwise

/-- The matrix of ones. -/
theorem ones_apply (k l : Fin 128) : V m c main_v52 (ix2 k l) = (1 : EReal) := by
  unfold V
  after_reads_at

/-- The padded vote weights at row `5a`, column `b < 4`: the weight of action `a` in logit `b`. -/
theorem wpad_hit (a b : Fin 4) (k l : Fin 128) (hk : k.val = 5 * a.val) (hl : l.val = b.val) : V m c main_v40 (ix2 k l) = wgt m c b a := by
  unfold V
  after_reads_at
  rw [scatter_pair_hit _ _ _ _ _ a b k l hk hl]
  · pointwise
    rfl
  · intro a b
    pointwise
    after_reads_at
    fin_cases a <;> rfl
  · intro a b
    pointwise
    after_reads_at
    fin_cases b <;> rfl

/-- The padded vote weights are zero elsewhere. -/
theorem wpad_miss (k l : Fin 128) (h : ∀ a b : Fin 4, ¬(k.val = 5 * a.val ∧ l.val = b.val)) : V m c main_v40 (ix2 k l) = (0 : EReal) := by
  unfold V
  after_reads_at
  rw [scatter_pair_miss _ _ _ _ _ k l h]
  · pointwise
  · intro a b
    pointwise
    after_reads_at
    fin_cases a <;> rfl
  · intro a b
    pointwise
    after_reads_at
    fin_cases b <;> rfl

/-- The bias row: the bias less the bound in the first four columns, minus infinity in the others. -/
theorem brow_apply (l : Fin 128) : V m c main_v51 (ix2 0 l) = if h : l.val < 4 then bias m c ⟨l.val, h⟩ - bound m c else (⊥ : EReal) := by
  unfold V
  after_reads_at
  rw [scatter_row _ _ _ _ _ l]
  · by_cases h : l.val < 4
    · rw [dif_pos h, dif_pos h]
      pointwise
      rw [ofBits_neg_inf]
      rfl
    · rw [dif_neg h, dif_neg h]
      pointwise
      exact ofBits_neg_inf
  · pointwise
    after_reads_at
  · pointwise
    after_reads_at

end Cert.Cosine

end
-- ==== Proof.Array.lean ====
module

public import proofs.«01_k».proof.Proof.Block
public import proofs.«01_k».proof.Proof.Host

@[expose] public section

set_option maxRecDepth 16384

noncomputable section

namespace Cert.Cosine

open Cert.KernelIdeal Cert.KernelIdeal.Gen Idealize.ShloMosaic Idealize.ShloMosaic.TcCoe Idealize.SL.Sem

variable (m : (ℓ : Loc nD τ sig) → Buf (Elt Ideal) ℓ) (c : Dev nD)

/-- A lane's logit for row `r`, over the arrays that the grid reads. -/
def logit (r : Fin 16384) (l : Fin 128) : EReal :=
  lane (row m c r) (fun k l => V m c main_v16 (ix2 k l)) (fun k l => V m c main_v40 (ix2 k l)) (fun l => V m c main_v51 (ix2 0 l)) l

/-- The kernel's result array, entry by entry. -/
def result (i : S16384x4.Idx) : EReal :=
  Ideal.exp (logit m c (i 0) ⟨(i 1).val, (i 1).isLt.trans (by decide)⟩) * Ideal.div 1 (∑ l : Fin 128, Ideal.exp (logit m c (i 0) l))

/-- The block indices of the six windows. -/
theorem idx (t : Fin cfg0.N) : win0_0.index t = ![t.val, 0] ∧ win0_1.index t = ![0, 0] ∧ win0_2.index t = ![0, 0] ∧ win0_3.index t = ![0, 0]
    ∧ win0_4.index t = ![0, 0] ∧ win0_5.index t = ![t.val, 0] := by
  revert t
  decide +kernel

/-- What point `t` stores at row `y 0`, column `y 1` of its block is `result` at row `1024 t + y 0`. -/
theorem point (t : Fin cfg0.N) (r : Fin 1024) (j : Fin 4) (hr : t.val * 1024 + r.val < 16384) :
    k0_pay1 (iblk m c 0 t) (iblk m c 1 t) (iblk m c 2 t) (iblk m c 3 t) (iblk m c 4 t) (iblk m c 2 t) (ix2 r j)
      = result m c (ix2 ⟨t.val * 1024 + r.val, hr⟩ j) := by
  have h1 : ∀ k l : Fin 128, iblk m c 1 t (ix2 k l) = V m c main_v16 (ix2 k l) := fun k l => by
    unfold iblk
    generalize V m c = W
    blk_ext [idx t]
  have h2 : ∀ k l : Fin 128, iblk m c 2 t (ix2 k l) = V m c main_v52 (ix2 k l) := fun k l => by
    unfold iblk
    generalize V m c = W
    blk_ext [idx t]
  have h3 : ∀ k l : Fin 128, iblk m c 3 t (ix2 k l) = V m c main_v40 (ix2 k l) := fun k l => by
    unfold iblk
    generalize V m c = W
    blk_ext [idx t]
  have h4 : ∀ l : Fin 128, iblk m c 4 t (ix2 0 l) = V m c main_v51 (ix2 0 l) := fun l => by
    unfold iblk
    generalize V m c = W
    blk_ext [idx t]
  have h0 : ∀ d : Fin 128, iblk m c 0 t (ix2 r d) = row m c ⟨t.val * 1024 + r.val, hr⟩ d := fun d => by
    have e : row m c ⟨t.val * 1024 + r.val, hr⟩ d = V m c main_arg0 (ix2 ⟨t.val * 1024 + r.val, hr⟩ d) :=
      congrFun (V_main_arg0 m c).symm _
    rw [e]
    unfold iblk
    generalize V m c = W
    blk_ext [idx t]
  rw [pay_apply _ _ _ _ _ (fun k l => (h2 k l).trans (ones_apply m c k l))]
  simp only [h0, h1, h3, h4]
  rfl

/-- After the run the kernel's array is `result`. -/
theorem arr_eq : (dats m 0 c).arrAt 5 cfg0.N = result m c := by
  refine (dats m 0 c).arrAt_eq_of_covers 5 _ (by decide +kernel) fun t hf y => ?_
  blk_simp
  rw [after0_5]
  frame_out
  idx_vars y
  have ht : t.val < 16 := t.isLt
  refine (point m c t _ _ (by omega)).trans (congrArg (result m c) ?_)
  blk_ext [idx t]

end Cert.Cosine

end
-- ==== Proof.Equation.lean ====
module

public import proofs.«01_k».proof.Proof.Algebra
public import proofs.«01_k».proof.Proof.Array

@[expose] public section

set_option maxRecDepth 16384

noncomputable section

namespace Cert.Cosine

open Cert.KernelIdeal Cert.KernelIdeal.Gen Idealize.ShloMosaic Idealize.ShloMosaic.TcCoe Idealize.SL.Sem

variable (m : (ℓ : Loc nD τ sig) → Buf (Elt Ideal) ℓ) (c : Dev nD)

/-- A column of the replicated words, below the twentieth, against a row. -/
theorem column (x : Fin 128 → EReal) (l : ℕ) (h : l < 20) :
    ∑ d : Fin 128, x d * V m c main_v16 (ix2 d ⟨l, by omega⟩) = ∑ d : Fin 128, x d * unit (vec m c (word ⟨l, h⟩)) d :=
  Finset.sum_congr rfl fun d _ => by rw [words_apply, dif_pos h]

/-- Lane `5 a` of the pooled similarities, times the reciprocal root of the row, is action `a`'s vote. -/
theorem pooled (x : Fin 128 → EReal) (a : Fin 4) :
    five (fun k => ∑ d : Fin 128, x d * V m c main_v16 (ix2 d k)) ⟨5 * a.val, by omega⟩ * Ideal.rsqrt (max (sumSq x) (eps * eps))
      = vote x (vec m c) a := by
  have ha := a.isLt
  rw [← greatest_unit, five_apply _ _ (by omega)]
  beta_reduce
  rw [column m c x _ (by omega), column m c x _ (by omega), column m c x _ (by omega), column m c x _ (by omega), column m c x _ (by omega)]
  unfold greatest member
  beta_reduce
  have e1 : 1 + 5 * a.val = 5 * a.val + 1 := by omega
  have e2 : 2 + 5 * a.val = 5 * a.val + 2 := by omega
  have e3 : 1 + (5 * a.val + 2) = 5 * a.val + 3 := by omega
  have e4 : 4 + 5 * a.val = 5 * a.val + 4 := by omega
  simp only [e2, e1, e3, e4]
  rfl

/-- The lanes at which the padded weights hold the four actions. -/
def place (a : Fin 4) : Fin 128 := ⟨5 * a.val, by omega⟩

/-- The logit in a lane below four: the votes against the lane's weights, and its bias less the bound. -/
theorem logit_real (r : Fin 16384) (j : Fin 4) :
    logit m c r ⟨j.val, by omega⟩ = (∑ a : Fin 4, vote (row m c r) (vec m c) a * wgt m c j a) + (bias m c j - bound m c) := by
  unfold logit lane
  beta_reduce
  rw [brow_apply, dif_pos j.isLt]
  congr 1
  symm
  refine Fintype.sum_of_injective place (fun a b h => Fin.ext ?_) _ _ (fun k hk => ?_) fun a => ?_
  · have := congrArg Fin.val h
    simp only [place] at this
    omega
  · rw [wpad_miss m c k _ fun a b h => hk ⟨a, Fin.ext h.1.symm⟩, mul_zero]
  · rw [wpad_hit m c a j (place a) _ rfl rfl, ← pooled]
    rfl

/-- The logit in a lane from four on is minus infinity. -/
theorem logit_pad (r : Fin 16384) (l : Fin 128) (h : ¬ l.val < 4) : logit m c r l = ⊥ := by
  unfold logit lane
  beta_reduce
  rw [brow_apply, dif_neg h, EReal.add_bot]

/-- The sum of the exponentials over 128 lanes is the sum over the four actions' lanes. -/
theorem sum_exp (r : Fin 16384) :
    ∑ l : Fin 128, Ideal.exp (logit m c r l) = ∑ j : Fin 4, Ideal.exp (logit m c r ⟨j.val, by omega⟩) := by
  symm
  refine Fintype.sum_of_injective (fun j : Fin 4 => (⟨j.val, by omega⟩ : Fin 128)) (fun a b h => Fin.ext (Fin.mk.inj h)) _ _ (fun l hl => ?_)
    fun j => rfl
  rw [logit_pad m c r l fun h => hl ⟨⟨l.val, h⟩, rfl⟩, Ideal.exp_bot]

/-- The bound is a real number if the weights and the biases are. -/
theorem isReal_bound (hw : ∀ j a, IsReal (wgt m c j a)) (hb : ∀ j, IsReal (bias m c j)) : IsReal (bound m c) :=
  isReal_fold _ fun j => isReal_add (isReal_sum _ fun a => isReal_max (hw j a) (isReal_neg (hw j a))) (hb j)

/-- With finite weights and biases the kernel's result is the softmax of the votes' scores. -/
theorem result_eq (hw : ∀ j a, IsReal (wgt m c j a)) (hb : ∀ j, IsReal (bias m c j)) (r : Fin 16384) (j : Fin 4) :
    result m c (ix2 r j) = softmax (score (row m c r) (vec m c) (wgt m c) (bias m c)) j := by
  have hy : ∀ j, IsReal (∑ a : Fin 4, vote (row m c r) (vec m c) a * wgt m c j a) := fun j =>
    isReal_sum _ fun a => isReal_mul (isReal_vote _ _ a) (hw j a)
  refine Eq.trans ?_ (softmax_eq _ _ (bound m c) hy hb (isReal_bound m c hw hb) j)
  show Ideal.exp (logit m c r ⟨j.val, _⟩) * Ideal.div 1 (∑ l : Fin 128, Ideal.exp (logit m c r l)) = _
  rw [sum_exp]
  simp only [logit_real]

end Cert.Cosine

end
-- ==== Proof.Finite.lean ====
module

public import proofs.«01_k».proof.Proof.Equation
public import proofs.«01_k».proof.Defs
public import proofs.«01_k».proof.Proof.Gen.Pre_finite_vote
public import Idealize.ShloMosaic.Lib.Pointwise
public import Idealize.ShloMosaic.Lib.WordCmp

@[expose] public section

set_option maxRecDepth 16384

noncomputable section

namespace Cert.Cosine

open Cert.KernelIdeal Cert.KernelIdeal.Gen Idealize.ShloMosaic Idealize.ShloMosaic.TcCoe Idealize.SL.Sem

/-- One entry of the predicate: it holds where the weight's and the bias's absolute values are below plus infinity. -/
theorem finite_apply (x : FVec Ideal Cert.Pre_finite_vote.S16384x128 .f32) (v : FVec Ideal Cert.Pre_finite_vote.S1x128x11 .f32)
    (w : FVec Ideal Cert.Pre_finite_vote.S4x4 .f32) (b : FVec Ideal Cert.Pre_finite_vote.S4 .f32) (j a : Fin 4)
    (h : Cert.Pre_finite_vote.fn (F := Ideal) x v w b (ix2 j a) = 1#1) : IsReal (w (ix2 j a)) ∧ IsReal (b (ix1 a)) := by
  pointwise [Cert.Pre_finite_vote.fn] at h
  have e : ∀ p q : Bool, IntOp.andi (BitVec.ofBool p) (BitVec.ofBool q) = 1#1 → p = true ∧ q = true := by decide
  obtain ⟨h1, h2⟩ := e _ _ h
  rw [decide_eq_true_iff, ofBits_pos_inf] at h1 h2
  exact ⟨isReal_of_abs h1, isReal_of_abs h2⟩

/-- Under the precondition every vote weight and every bias is a real number. -/
theorem finite_vote (m : (ℓ : Loc nD τ sig) → Buf (Elt Ideal) ℓ) (h : Cert.Pre_KernelIdeal_finite_vote m) (c : Dev nD) :
    (∀ j a, IsReal (wgt m c j a)) ∧ ∀ j, IsReal (bias m c j) :=
  ⟨fun j a => (finite_apply _ _ _ _ j a (congrFun (h c) _)).1, fun j => (finite_apply _ _ _ _ 0 j (congrFun (h c) _)).2⟩

end Cert.Cosine

end
-- ==== Proof.Ref.lean ====
module

public import proofs.«01_k».proof.Proof.Terms
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Cosine

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ) (c : Dev nD)

/-- The reference's comparison of a word's action with a lane number selects by `action`. -/
theorem select_action (p : Fin 11) (a : Fin 4) (A B : EReal) :
    Scalar.select (IntOp.cmpi CmpIPredicate.eq (lit0 (S11.rowMajor (ix1 p))) (BitVec.ofNat 32 a.val)) A B = if action p = a then A else B := by
  have h : IntOp.cmpi CmpIPredicate.eq (lit0 (S11.rowMajor (ix1 p))) (BitVec.ofNat 32 a.val) = if action p = a then 1#1 else 0#1 := by
    fin_cases p <;> fin_cases a <;> rfl
  rw [h]
  by_cases e : action p = a
  · rw [if_pos e, if_pos e]; rfl
  · rw [if_neg e, if_neg e]; rfl

/-- The reference's result array, entry by entry. -/
theorem ref_apply (r : Fin 16384) (j : Fin 4) :
    res_out0 m c (ix2 r j)
      = softmax (score (fun d => m (c.tc.loc main_arg0) (ix2 r d)) (fun p d => m (c.tc.loc main_arg1) (ix3 0 d p))
          (fun j a => m (c.tc.loc main_arg2) (ix2 j a)) (fun j => m (c.tc.loc main_arg3) (ix1 j))) j := by
  unfold res_out0 res_main_v43
  clean_types
  pointwise
  have e : id (constant (F := Ideal) S_ .f32 0xFF800000#32) ix0 = (⊥ : EReal) := ofBits_neg_inf
  simp only [select_action, e, ofBits_neg_inf]
  rfl

end Cert.Cosine

end
-- ==== Proof.Claims.lean ====
module

public import proofs.«01_k».proof.Proof.Finite
public import proofs.«01_k».proof.Proof.Ref
public import proofs.«01_k».proof.Proof.Gen.Kernel.Frame

@[expose] public section

set_option maxRecDepth 16384

noncomputable section

namespace Cert.Cosine

open Idealize.ShloMosaic Idealize.SL.Sem

/-- The kernel as printed, over the floats of the machine: it ends, its arguments unchanged and its semaphores at zero. -/
theorem frame_kernel : Cert.quiescent_Kernel := fun m g _ => Cert.Kernel.Gen.frame m g

/-- The idealized kernel ends, its arguments unchanged and its semaphores at zero. -/
theorem frame_kernelIdeal : Cert.quiescent_KernelIdeal := fun m g _ => Cert.KernelIdeal.Gen.frame m g

/-- The same under the precondition of the value claim. -/
theorem frame_kernelIdeal_finite : Cert.quiescent_KernelIdeal_pre_finite_vote := fun m g _ => Cert.KernelIdeal.Gen.frame m g

/-- The idealized reference ends, its arguments unchanged and its semaphores (it has none) at zero. -/
theorem frame_referenceIdeal : Cert.quiescent_ReferenceIdeal := fun m g _ =>
  (θ_run Cert.ReferenceIdeal.defs _ _).mono
    (fun r h => And.intro (fun c => (h c).2) (sem_eq_zero_of_no_sems (by decide) r.2)) (Cert.ReferenceIdeal.Value.run (F := Ideal) m g)

/-- The same under the precondition of the value claim. -/
theorem frame_referenceIdeal_finite : Cert.quiescent_ReferenceIdeal_pre_finite_vote := fun m g _ => frame_referenceIdeal m g trivial

/-- The idealization names one constant of the kernel, the square of the floor under a norm. -/
theorem preserves_names : Cert.preserves_Kernel_KernelIdeal :=
  IdealRules.named_const.statement Cert.KernelIdeal.κ "eps_squared" .f32 0x24E69595#32
    ((126765058482001 / 1267650600228229401496703205376 : ℝ) : EReal) rfl

/-- With finite vote weights and biases the kernel and the reference end with equal results: at row `r`, column `j`,
    the softmax over the four actions of the row's votes, each the greatest cosine similarity to the action's words,
    against the weights and biases of logit `j`. -/
theorem results_equal : Cert.algebraic_KernelIdeal_ReferenceIdeal_pre_finite_vote := by
  intro m g m' g' hpre hagree
  refine ⟨_, Cert.KernelIdeal.Value.run_blocks m g, ?_⟩
  refine (θ_run Cert.ReferenceIdeal.defs _ _).mono (fun _ h c => ⟨(h c).1.trans ?_, (h c).2⟩) (Cert.ReferenceIdeal.Value.run (F := Ideal) m' g')
  obtain ⟨hw, hb⟩ := finite_vote m hpre c
  rw [arr_eq]
  funext i
  obtain ⟨r, j, rfl⟩ : ∃ (r : Fin 16384) (j : Fin 4), i = ix2 r j := ⟨i 0, i 1, by funext k; fin_cases k <;> rfl⟩
  rw [result_eq m c hw hb]
  refine (ref_apply m' c r j).trans ?_
  obtain ⟨h0, h1, h2, h3⟩ := hagree c
  rw [h0, h1, h2, h3]
  rfl

end Cert.Cosine

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Pre_finite_vote

@[expose] public section

noncomputable section

namespace Cert.Proof

/-- Everything the certificate claims: the facts the programs state, then the claims in order. -/
theorem claim : Cert.Claim :=
  ⟨Cert.Kernel.Gen.facts, Cert.KernelIdeal.Gen.facts, Cert.ReferenceIdeal.Gen.facts, Cert.Pre_finite_vote.Gen.facts,
    Cosine.frame_kernel, Cosine.frame_kernelIdeal, Cosine.frame_kernelIdeal_finite, Cosine.frame_referenceIdeal,
    Cosine.frame_referenceIdeal_finite, Cosine.preserves_names, Cosine.results_equal⟩

end Cert.Proof

end
